-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x4096x1024 : Shape := ⟨3, ![16, 4096, 1024]⟩
abbrev S9 : Shape := ⟨1, ![9]⟩
abbrev S256x9 : Shape := ⟨2, ![256, 9]⟩
abbrev S9x256 : Shape := ⟨2, ![9, 256]⟩
abbrev S1x9 : Shape := ⟨2, ![1, 9]⟩
abbrev S262144x256 : Shape := ⟨2, ![262144, 256]⟩
abbrev S8192x256 : Shape := ⟨2, ![8192, 256]⟩
abbrev S1x256 : Shape := ⟨2, ![1, 256]⟩
abbrev S2048x256 : Shape := ⟨2, ![2048, 256]⟩
abbrev S2048x9 : Shape := ⟨2, ![2048, 9]⟩

abbrev nBuf : Space → Nat
  | .hbm => 13
  | .vmem => 9
  | .smem => 0
  | _ => 0

abbrev bufTy : (tb : Table) → Fin (tcTables nBuf tb) → BufTy
  | .hbm, ⟨0, _⟩ => ⟨S16x4096x1024, .f32⟩
  | .hbm, ⟨1, _⟩ => ⟨S9, .f32⟩
  | .hbm, ⟨2, _⟩ => ⟨S9, .f32⟩
  | .hbm, ⟨3, _⟩ => ⟨S256x9, .f32⟩
  | .hbm, ⟨4, _⟩ => ⟨S9x256, .f32⟩
  | .hbm, ⟨5, _⟩ => ⟨S1x9, .f32⟩
  | .hbm, ⟨6, _⟩ => ⟨S262144x256, .f32⟩
  | .hbm, ⟨7, _⟩ => ⟨S256x9, .bf16⟩
  | .hbm, ⟨8, _⟩ => ⟨S9x256, .bf16⟩
  | .hbm, ⟨9, _⟩ => ⟨S1x9, .f32⟩
  | .hbm, ⟨10, _⟩ => ⟨S1x9, .f32⟩
  | .hbm, ⟨11, _⟩ => ⟨S262144x256, .f32⟩
  | .hbm, ⟨12, _⟩ => ⟨S16x4096x1024, .f32⟩
  | .local _ .vmem, ⟨0, _⟩ => ⟨S8192x256, .f32⟩
  | .local _ .vmem, ⟨1, _⟩ => ⟨S8192x256, .f32⟩
  | .local _ .vmem, ⟨2, _⟩ => ⟨S256x9, .bf16⟩
  | .local _ .vmem, ⟨3, _⟩ => ⟨S9x256, .bf16⟩
  | .local _ .vmem, ⟨4, _⟩ => ⟨S1x9, .f32⟩
  | .local _ .vmem, ⟨5, _⟩ => ⟨S1x9, .f32⟩
  | .local _ .vmem, ⟨6, _⟩ => ⟨S1x9, .f32⟩
  | .local _ .vmem, ⟨7, _⟩ => ⟨S8192x256, .f32⟩
  | .local _ .vmem, ⟨8, _⟩ => ⟨S8192x256, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x9 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S9x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x9 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x9 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x9 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S16x4096x1024 : Shape := ⟨3, ![16, 4096, 1024]⟩
abbrev S9 : Shape := ⟨1, ![9]⟩
abbrev S256x9 : Shape := ⟨2, ![256, 9]⟩
abbrev S16x4096x4x256 : Shape := ⟨4, ![16, 4096, 4, 256]⟩
abbrev S16x4096x4x9 : Shape := ⟨4, ![16, 4096, 4, 9]⟩
abbrev S1x1x1x9 : Shape := ⟨4, ![1, 1, 1, 9]⟩
abbrev S_ : Shape := ⟨0, ![]⟩
abbrev S256 : Shape := ⟨1, ![256]⟩
abbrev S1x1x1x256 : Shape := ⟨4, ![1, 1, 1, 256]⟩

abbrev nBuf : Space → Nat
  | .hbm => 31
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S9, .f32⟩
  | .hbm, ⟨2, _⟩ => ⟨S9, .f32⟩
  | .hbm, ⟨3, _⟩ => ⟨S256x9, .f32⟩
  | .hbm, ⟨4, _⟩ => ⟨S9, .f32⟩
  | .hbm, ⟨5, _⟩ => ⟨S16x4096x4x256, .f32⟩
  | .hbm, ⟨6, _⟩ => ⟨S16x4096x4x9, .f32⟩
  | .hbm, ⟨7, _⟩ => ⟨S1x1x1x9, .f32⟩
  | .hbm, ⟨8, _⟩ => ⟨S16x4096x4x9, .f32⟩
  | .hbm, ⟨9, _⟩ => ⟨S16x4096x4x9, .f32⟩
  | .hbm, ⟨10, _⟩ => ⟨S16x4096x4x256, .f32⟩
  | .hbm, ⟨11, _⟩ => ⟨S16x4096x4x256, .f32⟩
  | .hbm, ⟨12, _⟩ => ⟨S16x4096x4x256, .f32⟩
  | .hbm, ⟨13, _⟩ => ⟨S16x4096x4x9, .f32⟩
  | .hbm, ⟨14, _⟩ => ⟨S1x1x1x9, .f32⟩
  | .hbm, ⟨15, _⟩ => ⟨S16x4096x4x9, .f32⟩
  | .hbm, ⟨16, _⟩ => ⟨S16x4096x4x9, .f32⟩
  | .hbm, ⟨17, _⟩ => ⟨S_, .f32⟩
  | .hbm, ⟨18, _⟩ => ⟨S16x4096x4x9, .f32⟩
  | .hbm, ⟨19, _⟩ => ⟨S16x4096x4x9, .f32⟩
  | .hbm, ⟨20, _⟩ => ⟨S16x4096x4x9, .f32⟩
  | .hbm, ⟨21, _⟩ => ⟨S1x1x1x9, .f32⟩
  | .hbm, ⟨22, _⟩ => ⟨S16x4096x4x9, .f32⟩
  | .hbm, ⟨23, _⟩ => ⟨S16x4096x4x9, .f32⟩
  | .hbm, ⟨24, _⟩ => ⟨S16x4096x4x256, .f32⟩
  | .hbm, ⟨25, _⟩ => ⟨S256, .f32⟩
  | .hbm, ⟨26, _⟩ => ⟨S16x4096x4x256, .f32⟩
  | .hbm, ⟨27, _⟩ => ⟨S1x1x1x256, .f32⟩
  | .hbm, ⟨28, _⟩ => ⟨S16x4096x4x256, .f32⟩
  | .hbm, ⟨29, _⟩ => ⟨S16x4096x4x256, .f32⟩
  | .hbm, ⟨30, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Proof.Spec.lean ====
/- The mathematics both programs compute: a row of 256 components, each of one of nine grades, is centred and scaled
   grade by grade, and a per-grade offset is added.  Everything is stated over the extended reals. -/
module

public import Idealize.ShloMosaic.Lib.Pointwise

@[expose] public section

noncomputable section

namespace Cert.RowNorm

open Idealize.ShloMosaic

/-- The mean of `y` over each grade: `G k g` is one where component `k` has grade `g` and zero elsewhere, and `n g` is
    the number of components of grade `g`. -/
def gradeMean (G : Fin 256 → Fin 9 → EReal) (n : Fin 9 → EReal) (y : Fin 256 → EReal) (g : Fin 9) : EReal :=
  Ideal.div (∑ k, y k * G k g) (n g)

/-- A value per grade handed back to every component of that grade. -/
def perComponent (G : Fin 256 → Fin 9 → EReal) (s : Fin 9 → EReal) (j : Fin 256) : EReal :=
  ∑ g, s g * G j g

/-- The row with each grade's mean taken away. -/
def centred (G : Fin 256 → Fin 9 → EReal) (n : Fin 9 → EReal) (x : Fin 256 → EReal) (j : Fin 256) : EReal :=
  x j - perComponent G (gradeMean G n x) j

/-- The factor of each grade: the reciprocal root of the grade's variance plus a small constant, times its weight. -/
def gradeScale (G : Fin 256 → Fin 9 → EReal) (n w : Fin 9 → EReal) (x : Fin 256 → EReal) (g : Fin 9) : EReal :=
  Ideal.rsqrt (gradeMean G n (fun k => centred G n x k * centred G n x k) g + Ideal.ofBits FTy.f32 0x3727C5AC#32) * w g

/-- The normalised row: centred, scaled grade by grade, and shifted by the grade's bias. -/
def rowNorm (G : Fin 256 → Fin 9 → EReal) (n w b : Fin 9 → EReal) (x : Fin 256 → EReal) (j : Fin 256) : EReal :=
  centred G n x j * perComponent G (gradeScale G n w x) j + perComponent G b j

end Cert.RowNorm

end
-- ==== Proof.Block.lean ====
/- What the kernel's body leaves in its output block: every row of the block is the normalised row of the input block.
   The body works on four tiles of 2048 rows; each tile's stored value is read at an index, and the four are put together. -/
module

public import proofs.«01_k».proof.Proof.Gen.KernelIdeal.Frame
public import Idealize.ShloMosaic.Lib.Pipeline.ValueKit
public import proofs.«01_k».proof.Proof.Spec

@[expose] public section

set_option maxRecDepth 16384

noncomputable section

namespace Cert.KernelIdeal.RowNorm

open Idealize.ShloMosaic Idealize.SL.Sem Cert.KernelIdeal Cert.KernelIdeal.Gen Cert.RowNorm

variable (g : Vec Ideal S256x9 .bf16) (gt : Vec Ideal S9x256 .bf16) (n w b : Vec Ideal S1x9 .f32)

/-- The first tile's stored value at row `r`, component `j`, where the second table is the first one transposed. -/
theorem tile0_at (hgt : ∀ (q : Fin 9) (k : Fin 256), gt (ix2 q k) = g (ix2 k q)) (x : Vec Ideal S2048x256 .f32)
    (r : Fin 2048) (j : Fin 256) :
    k0_pay7 (F := Ideal) g gt n w b x (ix2 r j)
      = rowNorm (fun k q => g (ix2 k q)) (fun q => n (ix2 0 q)) (fun q => w (ix2 0 q)) (fun q => b (ix2 0 q))
          (fun k => x (ix2 r k)) j := by
  pointwise [k0_pay7, k0_pay3, k0_pay4, k0_pay5, k0_pay6]
  simp only [hgt]
  rfl

/-- The second tile's stored value at row `r`, component `j`. -/
theorem tile1_at (hgt : ∀ (q : Fin 9) (k : Fin 256), gt (ix2 q k) = g (ix2 k q)) (x : Vec Ideal S2048x256 .f32)
    (r : Fin 2048) (j : Fin 256) :
    k0_pay8 (F := Ideal) (k0_pay3 g) (k0_pay4 gt) n (k0_pay5 w) (k0_pay6 gt b) x (ix2 r j)
      = rowNorm (fun k q => g (ix2 k q)) (fun q => n (ix2 0 q)) (fun q => w (ix2 0 q)) (fun q => b (ix2 0 q))
          (fun k => x (ix2 r k)) j := by
  pointwise [k0_pay8, k0_pay3, k0_pay4, k0_pay5, k0_pay6]
  simp only [hgt]
  rfl

/-- The third tile's stored value at row `r`, component `j`. -/
theorem tile2_at (hgt : ∀ (q : Fin 9) (k : Fin 256), gt (ix2 q k) = g (ix2 k q)) (x : Vec Ideal S2048x256 .f32)
    (r : Fin 2048) (j : Fin 256) :
    k0_pay1 (F := Ideal) (k0_pay4 gt) (k0_pay6 gt b) (k0_pay9 (k0_pay3 g) (k0_pay4 gt) n x)
        (k0_pay10 (k0_pay3 g) (k0_pay4 gt) n (k0_pay5 w) x) (constant S2048x256 .f32 0x00000000#32) (ix2 r j)
      = rowNorm (fun k q => g (ix2 k q)) (fun q => n (ix2 0 q)) (fun q => w (ix2 0 q)) (fun q => b (ix2 0 q))
          (fun k => x (ix2 r k)) j := by
  pointwise [k0_pay1, k0_pay9, k0_pay10, k0_pay3, k0_pay4, k0_pay5, k0_pay6]
  simp only [hgt]
  rfl

/-- The fourth tile's stored value at row `r`, component `j`. -/
theorem tile3_at (hgt : ∀ (q : Fin 9) (k : Fin 256), gt (ix2 q k) = g (ix2 k q)) (x : Vec Ideal S2048x256 .f32)
    (r : Fin 2048) (j : Fin 256) :
    k0_pay2 (F := Ideal) (k0_pay3 g) (k0_pay4 gt) n (k0_pay5 w) (k0_pay6 gt b) x (ix2 r j)
      = rowNorm (fun k q => g (ix2 k q)) (fun q => n (ix2 0 q)) (fun q => w (ix2 0 q)) (fun q => b (ix2 0 q))
          (fun k => x (ix2 r k)) j := by
  pointwise [k0_pay2, k0_pay3, k0_pay4, k0_pay5, k0_pay6]
  simp only [hgt]
  rfl

/-- The offset of a rectangle that starts at the origin. -/
theorem origin : (![0, 0] : Fin 2 → Nat) = fun _ => 0 := by decide

/-- Reading a block through the rectangle that is the whole block gives the block back. -/
theorem ld_g : View.ld g r0_0 = g := View.ld_unit_zero origin _ _

/-- The same for the transposed table. -/
theorem ld_gt : View.ld gt r0_1 = gt := View.ld_unit_zero origin _ _

/-- The same for a row of nine values. -/
theorem ld_row (v : Vec Ideal S1x9 .f32) : View.ld v r0_2 = v := View.ld_unit_zero origin _ _

/-- A block of normalised rows. -/
def normBlock (x : Vec Ideal S8192x256 .f32) : Vec Ideal S8192x256 .f32 := fun y =>
  rowNorm (fun k q => g (ix2 k q)) (fun q => n (ix2 0 q)) (fun q => w (ix2 0 q)) (fun q => b (ix2 0 q))
    (fun k => x (ix2 (y 0) k)) (y 1)

/-- Tile `o` of a block of normalised rows is the normalised rows of tile `o` of the input block. -/
theorem normBlock_tile (x : Vec Ideal S8192x256 .f32) (o : Nat)
    (inb : ∀ a : Fin 2, (![o, 0] : Fin 2 → Nat) a + S2048x256.size a ≤ S8192x256.size a) (r : Fin 2048) (j : Fin 256) :
    rowNorm (fun k q => g (ix2 k q)) (fun q => n (ix2 0 q)) (fun q => w (ix2 0 q)) (fun q => b (ix2 0 q))
        (fun k => View.ld x (Rect.unit (s := S8192x256) ![o, 0] S2048x256.size inb) (ix2 r k)) j
      = normBlock g n w b x ((Rect.unit (s := S8192x256) ![o, 0] S2048x256.size inb).emb (ix2 r j)) := by
  unfold normBlock
  congr 1
  · funext k
    refine congrArg x (funext fun a => Fin.ext ?_)
    match a with
    | ⟨0, _⟩ => rfl
    | ⟨1, _⟩ => show 0 + 1 * k.val = k.val; omega
  · exact Fin.ext (show j.val = 0 + 1 * j.val by omega)

/-- The whole output block at an index: the normalised row of the input block. -/
theorem block_at (hgt : ∀ (q : Fin 9) (k : Fin 256), gt (ix2 q k) = g (ix2 k q)) (x : Vec Ideal S8192x256 .f32)
    (y : S8192x256.Idx) :
    out0_6 (F := Ideal) x g gt n w b y = normBlock g n w b x y := by
  unfold out0_6 k0_pay11 k0_pay12 k0_pay13 k0_pay14
  simp only [ld_g, ld_gt, ld_row]
  refine View.canon_apply_of_pieces (normBlock g n w b x) _ ?_ y (cover0_6 _ _ _ _ y)
  intro p hp
  simp only [List.mem_cons, List.not_mem_nil, or_false] at hp
  rcases hp with rfl | rfl | rfl | rfl
  all_goals intro z; obtain ⟨r, j, rfl⟩ : ∃ (r : Fin 2048) (j : Fin 256), z = ix2 r j := ⟨z 0, z 1, eq_ix2 z⟩
  · exact (tile3_at g gt n w b hgt _ r j).trans (normBlock_tile g n w b x _ _ r j)
  · exact (tile2_at g gt n w b hgt _ r j).trans (normBlock_tile g n w b x _ _ r j)
  · exact (tile1_at g gt n w b hgt _ r j).trans (normBlock_tile g n w b x _ _ r j)
  · exact (tile0_at g gt n w b hgt _ r j).trans (normBlock_tile g n w b x _ _ r j)

end Cert.KernelIdeal.RowNorm

end
-- ==== Proof.Tables.lean ====
/- The literal tables the programs carry: the kernel's grade table is the reference's, its second table is the first one
   transposed, and the grade sizes agree. -/
module

public import proofs.«01_k».proof.KernelIdeal
public import proofs.«01_k».proof.ReferenceIdeal
public import Idealize.ShloMosaic.Lib.Pointwise

@[expose] public section

noncomputable section

namespace Cert.RowNorm

open Idealize.ShloMosaic

/-- The kernel's grade table holds the same words as the reference's. -/
theorem lit0_eq : ∀ i : Fin 2304, Cert.KernelIdeal.lit0 i = Cert.ReferenceIdeal.lit0 i := by
  decide +kernel

/-- The kernel's transposed table holds at `(q, k)` what the reference's grade table holds at `(k, q)`. -/
theorem lit1_eq : ∀ (q : Fin 9) (k : Fin 256),
    Cert.KernelIdeal.lit1 ⟨q.val * 256 + k.val, by omega⟩ = Cert.ReferenceIdeal.lit0 ⟨k.val * 9 + q.val, by omega⟩ := by
  decide +kernel

/-- The grade sizes are the same words. -/
theorem lit2_eq : ∀ q : Fin 9, Cert.KernelIdeal.lit2 q = Cert.ReferenceIdeal.lit1 q := by
  decide +kernel

/-- One where component `k` has grade `q`, zero elsewhere. -/
def grade (k : Fin 256) (q : Fin 9) : EReal :=
  Ideal.ofBits FTy.f32 (Cert.ReferenceIdeal.lit0 ⟨k.val * 9 + q.val, by omega⟩)

/-- The number of components of grade `q`. -/
def size (q : Fin 9) : EReal := Ideal.ofBits FTy.f32 (Cert.ReferenceIdeal.lit1 q)

end Cert.RowNorm

end
-- ==== Proof.Array.lean ====
/- What the kernel's arrays hold: the operands as the blocked computation finds them, and its output array afterwards. -/
module

public import proofs.«01_k».proof.Proof.Block
public import proofs.«01_k».proof.Proof.Tables
public import Idealize.ShloMosaic.Lib.Claim

@[expose] public section

set_option maxRecDepth 16384

noncomputable section

namespace Cert.KernelIdeal.RowNorm

open Idealize.ShloMosaic Idealize.SL.Sem Cert.KernelIdeal Cert.KernelIdeal.Gen Cert.RowNorm

variable (m : (ℓ : Loc nD τ sig) → Buf (Elt Ideal) ℓ) (c : Dev nD)

/-- The position of entry `(k, q)` in a table of 256 rows of nine. -/
theorem pos_g (k : Fin 256) (q : Fin 9) : S256x9.rowMajor (ix2 k q) = (⟨k.val * 9 + q.val, by omega⟩ : Fin 2304) :=
  Fin.ext (Shape.rowMajor_val_two (ix2 k q))

/-- The position of entry `(q, k)` in a table of nine rows of 256. -/
theorem pos_gt (q : Fin 9) (k : Fin 256) : S9x256.rowMajor (ix2 q k) = (⟨q.val * 256 + k.val, by omega⟩ : Fin 2304) :=
  Fin.ext (Shape.rowMajor_val_two (ix2 q k))

/-- The position of entry `(0, q)` in a single row of nine. -/
theorem pos_n (q : Fin 9) : S1x9.rowMajor (ix2 0 q) = q :=
  Fin.ext ((Shape.rowMajor_val_two (ix2 0 q)).trans (show 0 * 9 + q.val = q.val by omega))

/-- The rows: the first argument, its last axis cut into rows of 256. -/
theorem V_x : V m c main_v0 = shapeCast S262144x256 (m ((c.tc : Thread nD τ).loc main_arg0)) shapeCasts_S16x4096x1024_S262144x256 := by
  unfold V V0
  simp only [List.flatten_cons, List.flatten_nil, List.append_nil, hostOps0]
  after_results
  rfl

/-- The weights, as a row. -/
theorem V_w : V m c main_v3 = shapeCast S1x9 (m ((c.tc : Thread nD τ).loc main_arg1)) shapeCasts_S9_S1x9 := by
  unfold V V0
  simp only [List.flatten_cons, List.flatten_nil, List.append_nil, hostOps0]
  after_results
  rfl

/-- The biases, as a row. -/
theorem V_b : V m c main_v4 = shapeCast S1x9 (m ((c.tc : Thread nD τ).loc main_arg2)) shapeCasts_S9_S1x9 := by
  unfold V V0
  simp only [List.flatten_cons, List.flatten_nil, List.append_nil, hostOps0]
  after_results
  rfl

/-- The grade sizes, as a row. -/
theorem V_n : V m c main_cst_1 = fun i => (FloatOps.ofBits .f32 (lit2 (S1x9.rowMajor i)) : Ideal .f32) := by
  unfold V V0
  simp only [List.flatten_cons, List.flatten_nil, List.append_nil, hostOps0]
  after_results
  rfl

/-- The grade table. -/
theorem V_g : V m c main_v1 = truncf (F := Ideal) .bf16 (fun i : S256x9.Idx => (FloatOps.ofBits .f32 (lit0 (S256x9.rowMajor i)) : Ideal .f32)) bitsLt_bf16_f32 := by
  unfold V V0
  simp only [List.flatten_cons, List.flatten_nil, List.append_nil, hostOps0]
  after_results
  rfl

/-- The transposed grade table. -/
theorem V_gt : V m c main_v2 = truncf (F := Ideal) .bf16 (fun i : S9x256.Idx => (FloatOps.ofBits .f32 (lit1 (S9x256.rowMajor i)) : Ideal .f32)) bitsLt_bf16_f32 := by
  unfold V V0
  simp only [List.flatten_cons, List.flatten_nil, List.append_nil, hostOps0]
  after_results
  rfl

/-- Which block each operand shows at grid point `t`: the rows and the output move on with `t`, the others stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- The grade table at an entry. -/
theorem V_g_at (k : Fin 256) (q : Fin 9) : (V m c main_v1 : Vec Ideal S256x9 .bf16) (ix2 k q) = grade k q := by
  rw [V_g]
  pointwise
  rw [pos_g, lit0_eq]
  rfl

/-- The transposed table at an entry. -/
theorem V_gt_at (q : Fin 9) (k : Fin 256) : (V m c main_v2 : Vec Ideal S9x256 .bf16) (ix2 q k) = grade k q := by
  rw [V_gt]
  pointwise
  rw [pos_gt, lit1_eq]
  rfl

/-- The grade sizes at an entry. -/
theorem V_n_at (q : Fin 9) : (V m c main_cst_1 : Vec Ideal S1x9 .f32) (ix2 0 q) = size q := by
  rw [V_n]
  pointwise
  rw [pos_n, lit2_eq]
  rfl

/-- The weights at an entry. -/
theorem V_w_at (q : Fin 9) : (V m c main_v3 : Vec Ideal S1x9 .f32) (ix2 0 q)
    = (m ((c.tc : Thread nD τ).loc main_arg1) : Vec Ideal S9 .f32) (ix1 q) := by
  rw [V_w]
  pointwise

/-- The biases at an entry. -/
theorem V_b_at (q : Fin 9) : (V m c main_v4 : Vec Ideal S1x9 .f32) (ix2 0 q)
    = (m ((c.tc : Thread nD τ).loc main_arg2) : Vec Ideal S9 .f32) (ix1 q) := by
  rw [V_b]
  pointwise

/-- The grade table as a block, at any grid point. -/
theorem g_at (t : Fin cfg0.N) (k : Fin 256) (q : Fin 9) :
    (show Vec Ideal S256x9 .bf16 from iblk m c 1 t) (ix2 k q) = grade k q := by
  refine Eq.trans ?_ (V_g_at m c k q)
  blk_ext! [iblk, idx t]

/-- The transposed table as a block. -/
theorem gt_at (t : Fin cfg0.N) (q : Fin 9) (k : Fin 256) :
    (show Vec Ideal S9x256 .bf16 from iblk m c 2 t) (ix2 q k) = grade k q := by
  refine Eq.trans ?_ (V_gt_at m c q k)
  blk_ext! [iblk, idx t]

/-- The grade sizes as a block. -/
theorem n_at (t : Fin cfg0.N) (q : Fin 9) : (show Vec Ideal S1x9 .f32 from iblk m c 3 t) (ix2 0 q) = size q := by
  refine Eq.trans ?_ (V_n_at m c q)
  blk_ext! [iblk, idx t]

/-- The weights as a block. -/
theorem w_at (t : Fin cfg0.N) (q : Fin 9) : (show Vec Ideal S1x9 .f32 from iblk m c 4 t) (ix2 0 q)
    = (m ((c.tc : Thread nD τ).loc main_arg1) : Vec Ideal S9 .f32) (ix1 q) := by
  refine Eq.trans ?_ (V_w_at m c q)
  blk_ext! [iblk, idx t]

/-- The biases as a block. -/
theorem b_at (t : Fin cfg0.N) (q : Fin 9) : (show Vec Ideal S1x9 .f32 from iblk m c 5 t) (ix2 0 q)
    = (m ((c.tc : Thread nD τ).loc main_arg2) : Vec Ideal S9 .f32) (ix1 q) := by
  refine Eq.trans ?_ (V_b_at m c q)
  blk_ext! [iblk, idx t]

/-- The array of normalised rows: row `i` of the result is the normalised row `i` of the input. -/
def normRows (x : Vec Ideal S262144x256 .f32) (w b : Vec Ideal S9 .f32) : Vec Ideal S262144x256 .f32 := fun i =>
  rowNorm grade size (fun q => w (ix1 q)) (fun q => b (ix1 q)) (fun k => x (ix2 (i 0) k)) (i 1)

/-- The output array after the whole grid: the array of normalised rows. -/
theorem final : (dats m 0 c).arrAt 6 (cfgs 0).N
    = normRows (V m c main_v0) (m ((c.tc : Thread nD τ).loc main_arg1)) (m ((c.tc : Thread nD τ).loc main_arg2)) := by
  refine (dats m 0 c).arrAt_eq_of_covers 6 _ (by decide +kernel) fun t _ y => ?_
  blk_simp
  rw [after0_6]
  refine (block_at _ _ _ _ _ (fun q k => (gt_at m c t q k).trans (g_at m c t k q).symm) _ y).trans ?_
  unfold normBlock normRows
  congr 1
  · exact funext fun k => funext fun q => g_at m c t k q
  · exact funext fun q => n_at m c t q
  · exact funext fun q => w_at m c t q
  · exact funext fun q => b_at m c t q
  · funext k
    blk_ext! [iblk, idx t]
  · exact Fin.ext (by blk_simp [idx t] <;> omega)

end Cert.KernelIdeal.RowNorm

end
-- ==== Proof.KernelRun.lean ====
/- The kernel's run: its result is the array of normalised rows, put back into the argument's shape, and the three
   arguments are unchanged. -/
module

public import proofs.«01_k».proof.Proof.Array

@[expose] public section

noncomputable section

namespace Cert.KernelIdeal.RowNorm

open Idealize.ShloMosaic Idealize.SL.Sem Cert.KernelIdeal Cert.KernelIdeal.Gen Cert.RowNorm

variable (m : (ℓ : Loc nD τ sig) → Buf (Elt Ideal) ℓ) (ρ : Dev nD → PrngReg)

/-- The kernel's result as a function of its arguments. -/
def result (X : Vec Ideal S16x4096x1024 .f32) (w b : Vec Ideal S9 .f32) : Vec Ideal S16x4096x1024 .f32 :=
  shapeCast S16x4096x1024 (normRows (shapeCast S262144x256 X shapeCasts_S16x4096x1024_S262144x256) w b)
    shapeCasts_S262144x256_S16x4096x1024

/-- No two operands of the blocked computation are the same array. -/
theorem arrays_distinct : Function.Injective (Pipeline.arrRef spec0) := by decide +kernel

/-- The result buffer at the end, in terms of the arguments at launch. -/
theorem result_eq (c : Dev nD) : Pipeline.afterTail₀ cfgs (dats m) 0 (V0 m) [hostOps1] c main_v6
    = result (m ((c.tc : Thread nD τ).loc main_arg0)) (m ((c.tc : Thread nD τ).loc main_arg1))
        (m ((c.tc : Thread nD τ).loc main_arg2)) := by
  have h := Pipeline.withArrays_arr spec0 arrays_distinct c (V0 m c) (fun w => (dats m 0 c).arrAt w (cfgs 0).N) 6
  rw [final m c, V_x] at h
  unfold Pipeline.afterTail₀
  simp only [List.flatten_cons, List.flatten_nil, List.append_nil, hostOps1]
  after_results
  exact congrArg (fun Z : Vec Ideal S262144x256 .f32 => shapeCast S16x4096x1024 Z shapeCasts_S262144x256_S16x4096x1024) h

/-- The run: the result buffer holds the function of the arguments, and the arguments are as they were. -/
theorem run : θ_run defs (onTc (τ := τ) (main (F := Ideal))) ⟨m, fun _ => 0, ρ⟩ (fun r => ∀ c : Dev nD,
      r.2.mem ((c.tc : Thread nD τ).loc main_v6) = result (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.RowNorm

end
-- ==== Proof.Reference.lean ====
/- What the reference computes: its result, read at an index, is the normalised row.  The reference works on the whole
   argument cut into rows of 256; its steps are named here one by one and each is read at an index. -/
module

public import proofs.«01_k».proof.Proof.Gen.ReferenceIdeal.Run
public import proofs.«01_k».proof.Proof.Spec
public import proofs.«01_k».proof.Proof.Tables

@[expose] public section

set_option maxRecDepth 16384

noncomputable section

namespace Cert.ReferenceIdeal.RowNorm

open Idealize.ShloMosaic Idealize.SL.Sem Cert.ReferenceIdeal Cert.ReferenceIdeal.Gen Cert.RowNorm

/-- The grade table. -/
def members : FVec Ideal S256x9 .f32 := fun i => FloatOps.ofBits .f32 (lit0 (S256x9.rowMajor i))

/-- The grade sizes. -/
def sizes : FVec Ideal S9 .f32 := fun i => FloatOps.ofBits .f32 (lit1 (S9.rowMajor i))

/-- The argument cut into rows of 256. -/
def rows (X : FVec Ideal S16x4096x1024 .f32) : FVec Ideal S16x4096x4x256 .f32 :=
  shapeCast S16x4096x4x256 X shapeCasts_S16x4096x1024_S16x4096x4x256

/-- A value per grade handed to every row. -/
def everyRow (v : FVec Ideal S9 .f32) : FVec Ideal S16x4096x4x9 .f32 :=
  broadcastInDim S16x4096x4x9 ![0, 1, 2, 3] bcast_S1x1x1x9_S16x4096x4x9_0_1_2_3
    (broadcastInDim S1x1x1x9 ![3] bcast_S9_S1x1x1x9_3 v)

/-- The mean over each grade, row by row. -/
def means (Y : FVec Ideal S16x4096x4x256 .f32) : FVec Ideal S16x4096x4x9 .f32 :=
  Host.divf (Host.dotGeneral dot_S16x4096x4x256_S256x9_S16x4096x4x9_3_0_012_1_n_n none Y members) (everyRow sizes)

/-- A value per grade handed back to every component of that grade, row by row. -/
def components (s : FVec Ideal S16x4096x4x9 .f32) : FVec Ideal S16x4096x4x256 .f32 :=
  Host.dotGeneral dot_S16x4096x4x9_S256x9_S16x4096x4x256_3_1_012_0_n_n none s members

/-- The centred rows. -/
def centredRows (Y : FVec Ideal S16x4096x4x256 .f32) : FVec Ideal S16x4096x4x256 .f32 := subf Y (components (means Y))

/-- The factor of each grade, row by row. -/
def scales (Y : FVec Ideal S16x4096x4x256 .f32) (W : FVec Ideal S9 .f32) : FVec Ideal S16x4096x4x9 .f32 :=
  mulf (Host.rsqrt (addf (means (mulf (centredRows Y) (centredRows Y)))
    (broadcastInDim S16x4096x4x9 ![] bcast_S_S16x4096x4x9 (constant S_ .f32 0x3727C5AC#32)))) (everyRow W)

/-- The biases handed to every component of every row. -/
def shifts (B : FVec Ideal S9 .f32) : FVec Ideal S16x4096x4x256 .f32 :=
  broadcastInDim S16x4096x4x256 ![0, 1, 2, 3] bcast_S1x1x1x256_S16x4096x4x256_0_1_2_3
    (broadcastInDim S1x1x1x256 ![3] bcast_S256_S1x1x1x256_3 (Host.dotGeneral dot_S9_S256x9_S256_0_1_n_0_n_n none B members))

/-- The reference's result, still in rows. -/
def normalised (X : FVec Ideal S16x4096x1024 .f32) (W B : FVec Ideal S9 .f32) : FVec Ideal S16x4096x4x256 .f32 :=
  addf (mulf (centredRows (rows X)) (components (scales (rows X) W))) (shifts B)

/-- The reference's result. -/
def result (X : FVec Ideal S16x4096x1024 .f32) (W B : FVec Ideal S9 .f32) : FVec Ideal S16x4096x1024 .f32 :=
  shapeCast S16x4096x1024 (normalised X W B) shapeCasts_S16x4096x4x256_S16x4096x1024

/-- The grade table at an entry. -/
theorem members_at (k : Fin 256) (q : Fin 9) : members (ix2 k q) = grade k q := by
  unfold members grade
  rw [show S256x9.rowMajor (ix2 k q) = (⟨k.val * 9 + q.val, by omega⟩ : Fin 2304) from
    Fin.ext (Shape.rowMajor_val_two (ix2 k q))]
  rfl

/-- The grade sizes at an entry. -/
theorem sizes_at (q : Fin 9) : sizes (ix1 q) = size q := by
  unfold sizes size
  rw [show S9.rowMajor (ix1 q) = (q : Fin 9) from Fin.ext (Shape.rowMajor_val_one (ix1 q))]
  rfl

/-- The means at an entry. -/
theorem means_at (Y : FVec Ideal S16x4096x4x256 .f32) (a : Fin 16) (b : Fin 4096) (r : Fin 4) (q : Fin 9) :
    means Y (ix4 a b r q) = gradeMean grade size (fun k => Y (ix4 a b r k)) q := by
  pointwise [means, everyRow]
  simp only [members_at, sizes_at]
  rfl

/-- Handing back to components, at an entry. -/
theorem components_at (s : FVec Ideal S16x4096x4x9 .f32) (a : Fin 16) (b : Fin 4096) (r : Fin 4) (j : Fin 256) :
    components s (ix4 a b r j) = perComponent grade (fun q => s (ix4 a b r q)) j := by
  pointwise [components]
  simp only [members_at]
  rfl

/-- The centred rows at an entry. -/
theorem centredRows_at (Y : FVec Ideal S16x4096x4x256 .f32) (a : Fin 16) (b : Fin 4096) (r : Fin 4) (j : Fin 256) :
    centredRows Y (ix4 a b r j) = centred grade size (fun k => Y (ix4 a b r k)) j := by
  pointwise [centredRows]
  rw [components_at]
  simp only [means_at]
  rfl

/-- The factors at an entry. -/
theorem scales_at (Y : FVec Ideal S16x4096x4x256 .f32) (W : FVec Ideal S9 .f32) (a : Fin 16) (b : Fin 4096) (r : Fin 4)
    (q : Fin 9) : scales Y W (ix4 a b r q)
      = gradeScale grade size (fun q => W (ix1 q)) (fun k => Y (ix4 a b r k)) q := by
  pointwise [scales, everyRow]
  rw [means_at]
  pointwise
  simp only [centredRows_at]
  rfl

/-- The shifts at an entry. -/
theorem shifts_at (B : FVec Ideal S9 .f32) (a : Fin 16) (b : Fin 4096) (r : Fin 4) (j : Fin 256) :
    shifts B (ix4 a b r j) = perComponent grade (fun q => B (ix1 q)) j := by
  pointwise [shifts]
  simp only [members_at]
  rfl

/-- The result in rows, at an entry: the normalised row of the cut argument. -/
theorem normalised_at (X : FVec Ideal S16x4096x1024 .f32) (W B : FVec Ideal S9 .f32) (a : Fin 16) (b : Fin 4096)
    (r : Fin 4) (j : Fin 256) : normalised X W B (ix4 a b r j)
      = rowNorm grade size (fun q => W (ix1 q)) (fun q => B (ix1 q)) (fun k => rows X (ix4 a b r k)) j := by
  pointwise [normalised]
  rw [centredRows_at, components_at, shifts_at]
  simp only [scales_at]
  rfl

end Cert.ReferenceIdeal.RowNorm

end
-- ==== Proof.Equation.lean ====
/- The equation: kernel and reference compute the same function of the arguments. -/
module

public import proofs.«01_k».proof.Proof.KernelRun
public import proofs.«01_k».proof.Proof.Reference

@[expose] public section

set_option maxRecDepth 16384

noncomputable section

namespace Cert.RowNorm

open Idealize.ShloMosaic Idealize.SL.Sem

/-- The kernel's result is the reference's, as a function of the three arguments. -/
theorem result_eq (X : FVec Ideal Cert.ReferenceIdeal.S16x4096x1024 .f32) (W B : FVec Ideal Cert.ReferenceIdeal.S9 .f32) :
    Cert.KernelIdeal.RowNorm.result X W B = Cert.ReferenceIdeal.RowNorm.result X W B := by
  funext i
  idx_vars i
  pointwise [Cert.KernelIdeal.RowNorm.result, Cert.ReferenceIdeal.RowNorm.result]
  refine Eq.trans ?_ (Cert.ReferenceIdeal.RowNorm.normalised_at X W B i0 i1 _ _).symm
  unfold Cert.KernelIdeal.RowNorm.normRows
  refine congrArg (fun x => rowNorm grade size (fun q => W (ix1 q)) (fun q => B (ix1 q)) x ⟨i2.val % 256, by omega⟩) ?_
  funext k
  pointwise [Cert.ReferenceIdeal.RowNorm.rows]
  exact congrArg X (congrArg (ix3 i0 i1) (Fin.ext (by
    show (i0.val * 16384 + i1.val * 4 + i2.val / 256) % 4 * 256 + k.val = i2.val / 256 * 256 + k.val
    omega)))

end Cert.RowNorm

end
-- ==== Proof.lean ====
/- The certificate assembled: the three programs run and leave their arguments unchanged, and kernel and reference end
   with the same result.  The mathematics is in the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel as written runs to its end from any state and leaves its arguments as they were. -/
theorem frame_kernel : Cert.quiescent_Kernel := fun m ρ _ => Cert.Kernel.Gen.frame m ρ

/-- So does the kernel over the extended reals. -/
theorem frame_kernelIdeal : Cert.quiescent_KernelIdeal := fun m ρ _ => Cert.KernelIdeal.Gen.frame m ρ

/-- So does the reference over the extended reals. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From the same arguments kernel and reference end with the same result. -/
theorem same_result : Cert.algebraic_KernelIdeal_ReferenceIdeal := by
  intro m g m' g' _ hag
  refine ⟨fun c => Cert.KernelIdeal.RowNorm.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.RowNorm.run m g,
    (θ_run Cert.ReferenceIdeal.defs _ _).mono (fun r h c => ⟨(h c).1.trans ?_, (h c).2⟩)
      (Cert.ReferenceIdeal.Value.run (F := Ideal) m' g')⟩
  obtain ⟨h0, h1, h2⟩ := hag c
  rw [h0, h1, h2]
  exact (Cert.RowNorm.result_eq _ _ _).symm

/-- Every claim of the certificate. -/
theorem claim : Cert.Claim := ⟨Cert.Kernel.Gen.facts, Cert.KernelIdeal.Gen.facts, Cert.ReferenceIdeal.Gen.facts,
  frame_kernel, frame_kernelIdeal, frame_referenceIdeal, trivial, same_result⟩

end Cert.Proof

end
